-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_positive [hPre_lengths_positive : Cert.Pre_lengths_positive.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_positive [hPre_lengths_positive : Cert.Pre_lengths_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_lengths_positive [hKernelIdeal : Cert.KernelIdeal.Facts] [hPre_lengths_positive : Cert.Pre_lengths_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_positive m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lengths_positive [hReferenceIdeal : Cert.ReferenceIdeal.Facts] [hPre_lengths_positive : Cert.Pre_lengths_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_lengths_positive [hKernelIdeal : Cert.KernelIdeal.Facts] [hReferenceIdeal : Cert.ReferenceIdeal.Facts] [hPre_lengths_positive : Cert.Pre_lengths_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_lengths_positive : Cert.Pre_lengths_positive.Facts),
    quiescent_Kernel (hKernel := hKernel)
    ∧ quiescent_KernelIdeal (hKernelIdeal := hKernelIdeal)
    ∧ quiescent_KernelIdeal_pre_lengths_positive (hKernelIdeal := hKernelIdeal) (hPre_lengths_positive := hPre_lengths_positive)
    ∧ quiescent_ReferenceIdeal (hReferenceIdeal := hReferenceIdeal)
    ∧ quiescent_ReferenceIdeal_pre_lengths_positive (hReferenceIdeal := hReferenceIdeal) (hPre_lengths_positive := hPre_lengths_positive)
    ∧ preserves_Kernel_KernelIdeal
    ∧ algebraic_KernelIdeal_ReferenceIdeal_pre_lengths_positive (hKernelIdeal := hKernelIdeal) (hReferenceIdeal := hReferenceIdeal) (hPre_lengths_positive := hPre_lengths_positive)
-- ==== Pre_lengths_positive.lean ====
abbrev S4x8192x2048 : Shape := ⟨3, ![4, 8192, 2048]⟩
abbrev S4x8192 : Shape := ⟨2, ![4, 8192]⟩
abbrev S_ : Shape := ⟨0, ![]⟩
abbrev S4 : Shape := ⟨1, ![4]⟩

class Facts : Prop where
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S4x8192x2048 .f32) (main_arg1 : IVec S4x8192 32) : IVec S_ 1 :=
  let main_c : IVec S_ 32 := constantI S_ 32 0#32
  let main_v0 : IVec S4 32 := (fun x v => Host.reduce IntOp.addi x v reducesTo_S4x8192_S4_d1 h_S_) main_arg1 main_c
  let main_c_0 : IVec S_ 32 := constantI S_ 32 1#32
  let main_v1 : IVec S4 32 := broadcastInDim S4 ![] bcast_S_S4 main_c_0
  let main_v2 : IVec S4 1 := cmpi .sge main_v0 main_v1
  let main_c_1 : IVec S_ 1 := constantI S_ 1 1#1
  let main_v3 : IVec S_ 1 := (fun x v => Host.reduce IntOp.andi x v reducesTo_S4_S_d0 h_S_) main_v2 main_c_1
  main_v3
-- ==== Kernel.lean ====
abbrev S4x8192x2048 : Shape := ⟨3, ![4, 8192, 2048]⟩
abbrev S4x8192 : Shape := ⟨2, ![4, 8192]⟩
abbrev S4x2048 : Shape := ⟨2, ![4, 2048]⟩
abbrev S8192 : Shape := ⟨1, ![8192]⟩
abbrev S2048 : Shape := ⟨1, ![2048]⟩
abbrev S_ : Shape := ⟨0, ![]⟩
abbrev S1x8192 : Shape := ⟨2, ![1, 8192]⟩
abbrev S16 : Shape := ⟨1, ![16]⟩
abbrev S1 : Shape := ⟨1, ![1]⟩
abbrev S1x1x2048 : Shape := ⟨3, ![1, 1, 2048]⟩
abbrev S1x2048 : Shape := ⟨2, ![1, 2048]⟩

abbrev nBuf : Table → Nat
  | .hbm => 3
  | .local .scVector .vmem => 2
  | _ => 0

abbrev bufTy : (tb : Table) → Fin (nBuf tb) → BufTy
  | .hbm, ⟨0, _⟩ => ⟨S4x8192x2048, .f32⟩
  | .hbm, ⟨1, _⟩ => ⟨S4x8192, .i32⟩
  | .hbm, ⟨2, _⟩ => ⟨S4x2048, .f32⟩
  | .local .scVector .vmem, ⟨0, _⟩ => ⟨S8192, .i32⟩
  | .local .scVector .vmem, ⟨1, _⟩ => ⟨S2048, .f32⟩
  | _, _ => ⟨S4x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 1 := Scalar.cmpi .slt v1 c4_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r0 : BitVec 32 := 0#32
  ![v1.toNat, 0]
@[reducible] def k0_t1_loop : Scf.Loop 32 :=
  let c0_i32_1 : BitVec 32 := 0#32
  let c512_i32 : BitVec 32 := 512#32
  let v6 : BitVec 32 := Scalar.addi c0_i32_1 c512_i32
  let c1_i32 : BitVec 32 := 1#32
  ⟨c0_i32_1, v6, c1_i32⟩
def k0_off2 (k0_t1 : Fin k0_t1_loop.trips) : Fin 1 → Nat :=
  let c0_i32_1 : BitVec 32 := 0#32
  let c1_i32 : BitVec 32 := 1#32
  let arg7 : BitVec 32 := Scf.iv c0_i32_1 c1_i32 k0_t1
  let c16_i32 : BitVec 32 := 16#32
  let v58 : BitVec 32 := Scalar.muli arg7 c16_i32
  let v59 : Index := Scalar.indexCast v58
  ![v59.toNat]
def k0_off3 (i : grid0.Coords) (v9 : BitVec 32) (v11 : BitVec 32) (v14 : BitVec 32) (v17 : BitVec 32) (v20 : BitVec 32) (v23 : BitVec 32) (v26 : BitVec 32) (v29 : BitVec 32) (v32 : BitVec 32) (v35 : BitVec 32) (v38 : BitVec 32) (v41 : BitVec 32) (v44 : BitVec 32) (v47 : BitVec 32) (v50 : BitVec 32) (v53 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v12 : BitVec 32 := Scalar.addi v9 v11
  let v15 : BitVec 32 := Scalar.addi v12 v14
  let v18 : BitVec 32 := Scalar.addi v15 v17
  let v21 : BitVec 32 := Scalar.addi v18 v20
  let v24 : BitVec 32 := Scalar.addi v21 v23
  let v27 : BitVec 32 := Scalar.addi v24 v26
  let v30 : BitVec 32 := Scalar.addi v27 v29
  let v33 : BitVec 32 := Scalar.addi v30 v32
  let v36 : BitVec 32 := Scalar.addi v33 v35
  let v39 : BitVec 32 := Scalar.addi v36 v38
  let v42 : BitVec 32 := Scalar.addi v39 v41
  let v45 : BitVec 32 := Scalar.addi v42 v44
  let v48 : BitVec 32 := Scalar.addi v45 v47
  let v51 : BitVec 32 := Scalar.addi v48 v50
  let v54 : BitVec 32 := Scalar.addi v51 v53
  let c1_i32_3 : BitVec 32 := 1#32
  let v55 : BitVec 32 := Scalar.subi v54 c1_i32_3
  let c8191_i32 : BitVec 32 := 8191#32
  let v56 : BitVec 32 := Scalar.minsi v55 c8191_i32
  let c0_i32_4 : BitVec 32 := 0#32
  let v57 : BitVec 32 := Scalar.maxsi v56 c0_i32_4
  let c0_i32_5_r1 : BitVec 32 := 0#32
  ![v1.toNat, v57.toNat, 0]

def k0_chk1 (i : grid0.Coords) (v9 : BitVec 32) (v11 : BitVec 32) (v14 : BitVec 32) (v17 : BitVec 32) (v20 : BitVec 32) (v23 : BitVec 32) (v26 : BitVec 32) (v29 : BitVec 32) (v32 : BitVec 32) (v35 : BitVec 32) (v38 : BitVec 32) (v41 : BitVec 32) (v44 : BitVec 32) (v47 : BitVec 32) (v50 : BitVec 32) (v53 : BitVec 32) : Prop :=
  (∀ (k0_h1 : k0_cond1 i = 1#1), ∀ a, (k0_off3 i v9 v11 v14 v17 v20 v23 v26 v29 v32 v35 v38 v41 v44 v47 v50 v53) a + S1x1x2048.size a ≤ S4x8192x2048.size a)
theorem k0_off3_inb : ∀ (i : grid0.Coords) (v9 : BitVec 32) (v11 : BitVec 32) (v14 : BitVec 32) (v17 : BitVec 32) (v20 : BitVec 32) (v23 : BitVec 32) (v26 : BitVec 32) (v29 : BitVec 32) (v32 : BitVec 32) (v35 : BitVec 32) (v38 : BitVec 32) (v41 : BitVec 32) (v44 : BitVec 32) (v47 : BitVec 32) (v50 : BitVec 32) (v53 : BitVec 32) (k0_hw1 : k0_chk1 i v9 v11 v14 v17 v20 v23 v26 v29 v32 v35 v38 v41 v44 v47 v50 v53), ∀ (k0_h1 : k0_cond1 i = 1#1), ∀ a, (k0_off3 i v9 v11 v14 v17 v20 v23 v26 v29 v32 v35 v38 v41 v44 v47 v50 v53) a + S1x1x2048.size a ≤ S4x8192x2048.size a := fun i v9 v11 v14 v17 v20 v23 v26 v29 v32 v35 v38 v41 v44 v47 v50 v53 k0_hw1 k0_h1 => k0_hw1 k0_h1

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x2048 : Shape := ⟨3, ![4, 8192, 2048]⟩
abbrev S4x8192 : Shape := ⟨2, ![4, 8192]⟩
abbrev S_ : Shape := ⟨0, ![]⟩
abbrev S4 : Shape := ⟨1, ![4]⟩
abbrev S4x1 : Shape := ⟨2, ![4, 1]⟩
abbrev S4x2 : Shape := ⟨2, ![4, 2]⟩
abbrev S4x2048 : Shape := ⟨2, ![4, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192, .i32⟩
  | .hbm, ⟨2, _⟩ => ⟨S_, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i1⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i1⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S4, .i32⟩
  | .hbm, ⟨22, _⟩ => ⟨S4x1, .i32⟩
  | .hbm, ⟨23, _⟩ => ⟨S4x1, .i32⟩
  | .hbm, ⟨24, _⟩ => ⟨S4x2, .i32⟩
  | .hbm, ⟨25, _⟩ => ⟨S4x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Words.lean ====
module

public import Idealize.ShloMosaic.Lib.ValueIdxCore
public import Idealize.ShloMosaic.PureOps.Reduce
public import Mathlib.Data.BitVec
public import Mathlib.Algebra.BigOperators.Intervals

/-!
The arithmetic of one mask row, apart from any program: the sum of its 8192 words, the sixteen running sums that the
kernel keeps of it, and the position of the last valid row as a word, clamped into the sequence.
-/

@[expose] public section

noncomputable section

namespace Cert.Proof.Words

open Idealize.ShloMosaic Idealize.ShloMosaic.ValueIdx

/-- The words of row `b` of a mask, numbered from zero; past the end of the row every word counts as zero. -/
def rowWord (x : (⟨2, ![4, 8192]⟩ : Shape).Idx → BitVec 32) (b : Fin 4) (k : ℕ) : BitVec 32 :=
  if h : k < 8192 then x (ix2 b ⟨k, h⟩) else 0

/-- The sixteen running sums after `n` groups of sixteen words. -/
def lanes (r : ℕ → BitVec 32) (n : ℕ) : (⟨1, ![16]⟩ : Shape).Idx → BitVec 32 :=
  fun j => ∑ t ∈ Finset.range n, r (16 * t + (j 0).val)

/-- The sum of a whole row, modulo 2^32. -/
def rowTotal (r : ℕ → BitVec 32) : BitVec 32 := ∑ k ∈ Finset.range 8192, r k

/-- Before any group the running sums are zero. -/
theorem lanes_zero (r : ℕ → BitVec 32) (j : (⟨1, ![16]⟩ : Shape).Idx) : lanes r 0 j = 0#32 := by
  unfold lanes
  rw [Finset.sum_range_zero]
  rfl

/-- One more group adds one word to each running sum. -/
theorem lanes_succ (r : ℕ → BitVec 32) (n : ℕ) (j : (⟨1, ![16]⟩ : Shape).Idx) :
    lanes r (n + 1) j = lanes r n j + r (16 * n + (j 0).val) := by
  unfold lanes
  rw [Finset.sum_range_succ]

/-- A sum over `16 * n` words, taken group by group. -/
theorem sum_groups (r : ℕ → BitVec 32) (n : ℕ) :
    ∑ k ∈ Finset.range (16 * n), r k = ∑ t ∈ Finset.range n, ∑ l ∈ Finset.range 16, r (16 * t + l) := by
  induction n with
  | zero => rw [Nat.mul_zero, Finset.sum_range_zero, Finset.sum_range_zero]
  | succ n ih => rw [Nat.mul_succ, Finset.sum_range_add, ih, Finset.sum_range_succ _ n]

/-- Sixteen terms added from the left are the sum over sixteen. -/
theorem add_sixteen (f : ℕ → BitVec 32) :
    f 0 + f 1 + f 2 + f 3 + f 4 + f 5 + f 6 + f 7 + f 8 + f 9 + f 10 + f 11 + f 12 + f 13 + f 14 + f 15
      = ∑ l ∈ Finset.range 16, f l := by
  simp only [Finset.sum_range_succ, Finset.sum_range_zero, zero_add]

/-- The sixteen running sums after all 512 groups add up to the sum of the row. -/
theorem lanes_total (r : ℕ → BitVec 32) :
    (∑ l ∈ Finset.range 16, ∑ t ∈ Finset.range 512, r (16 * t + l)) = rowTotal r := by
  rw [Finset.sum_comm]
  exact (sum_groups r 512).symm

/-- The position of the last valid row: one less than the length, clamped to at most 8191 and then to at least 0, all signed. -/
def lastWord (w : BitVec 32) : BitVec 32 := Scalar.maxsi (Scalar.minsi (Scalar.subi w 1#32) 8191#32) 0#32

/-- The clamped position lies inside the sequence, whatever the length. -/
theorem lastWord_lt (w : BitVec 32) : (lastWord w).toNat < 8192 := by
  unfold lastWord Scalar.maxsi Scalar.minsi Scalar.subi IntOp.maxsi IntOp.minsi IntOp.subi
  split_ifs with h1 h2 h2 <;> simp only [BitVec.slt, decide_eq_true_eq, BitVec.toInt_eq_toNat_cond] at * <;> split_ifs at * <;> first | omega | bv_omega

/-- For a positive length the position is one less than the length, or 8191 if that is less. -/
theorem lastWord_of_pos (w : BitVec 32) (h1 : 1 ≤ w.toInt) : 0 ≤ (w - 1#32).toInt ∧ min (w - 1#32).toInt.toNat 8191 = (lastWord w).toNat := by
  have hw : 1 ≤ w.toNat ∧ w.toInt = w.toNat := by
    have := w.isLt
    rw [BitVec.toInt_eq_toNat_cond] at h1 ⊢
    split_ifs at h1 ⊢ <;> omega
  obtain ⟨hw, ht⟩ := hw
  have hs : (w - 1#32).toNat = w.toNat - 1 := by bv_omega
  have hi : (w - 1#32).toInt = ((w.toNat - 1 : ℕ) : ℤ) := by
    have := w.isLt
    rw [BitVec.toInt_eq_toNat_cond] at ht
    rw [BitVec.toInt_eq_toNat_cond, hs]
    split_ifs at ht ⊢ <;> omega
  refine ⟨by rw [hi]; exact Int.natCast_nonneg _, ?_⟩
  rw [hi, Int.toNat_natCast]
  have hm : (Scalar.minsi (Scalar.subi w 1#32) 8191#32).toNat = min (w.toNat - 1) 8191 := by
    unfold Scalar.minsi Scalar.subi IntOp.minsi IntOp.subi
    have h8 : (8191#32).toInt = 8191 := by decide
    split_ifs with h <;> simp only [BitVec.slt, decide_eq_true_eq, hi, h8] at h
    · rw [hs]
      omega
    · show 8191 = min (w.toNat - 1) 8191
      omega
  unfold lastWord
  generalize Scalar.minsi (Scalar.subi w 1#32) 8191#32 = v at hm
  have hv : v.toInt = v.toNat := by
    rw [BitVec.toInt_eq_toNat_cond]
    split_ifs <;> omega
  have h0 : (0#32).toInt = 0 := by decide
  unfold Scalar.maxsi IntOp.maxsi
  split_ifs with h <;> simp only [BitVec.slt, decide_eq_true_eq, hv, h0] at h
  · exact hm.symm
  · show _ = 0
    omega

/-- What the kernel returns: of every sequence the row at its clamped last valid position. -/
def lastRow {α : Type} (h : (⟨3, ![4, 8192, 2048]⟩ : Shape).Idx → α) (x : (⟨2, ![4, 8192]⟩ : Shape).Idx → BitVec 32) :
    (⟨2, ![4, 2048]⟩ : Shape).Idx → α :=
  fun p => h (ix3 (p 0) ⟨(lastWord (rowTotal (rowWord x (p 0)))).toNat, lastWord_lt _⟩ (p 1))

end Cert.Proof.Words
-- ==== Proof.TileIdeal.lean ====
module

public import proofs.«01_k».proof.Defs
public import proofs.«01_k».proof.Proof.Words
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.Gen.KernelIdeal.Skeleton

/-!
One vector subcore's part of the kernel. The subcores with number `2 * s + c` below four each take one sequence: they
fetch its mask row, add it up, fetch the hidden row at the clamped last valid position and write it to the result.
The other subcores do nothing.
-/

@[expose] public section

noncomputable section

namespace Cert.Proof.LastRowIdeal

open Cert.KernelIdeal Cert.KernelIdeal.Gen
open Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's data -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the program's handshake semaphores and shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F] (m : (l : Loc nD τ sig) → Buf (Elt F) l)

/-! ## The arrays and their slabs, one per sequence -/

abbrev hLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev hV : Memref sig .scVector .hbm S4x8192x2048 .f32 := Memref.whole main_arg0_scv
abbrev xV : Memref sig .scVector .hbm S4x8192 .i32 := Memref.whole main_arg1_scv
abbrev oV : Memref sig .scVector .hbm S4x2048 .f32 := Memref.whole main_v0_scv
abbrev mS : Memref sig .scVector .vmem S8192 .i32 := Memref.whole cc0_scratch0
abbrev rS : Memref sig .scVector .vmem S2048 .f32 := Memref.whole cc0_scratch1

/-- Four divides the number of sequences of the hidden array. -/
theorem hdivH : 4 ∣ S4x8192x2048.size 0 := ⟨1, rfl⟩
/-- Four divides the number of rows of the mask. -/
theorem hdivX : 4 ∣ S4x8192.size 0 := ⟨1, rfl⟩
/-- Four divides the number of rows of the result. -/
theorem hdivO : 4 ∣ S4x2048.size 0 := ⟨1, rfl⟩

abbrev hSet (b : Fin 4) : Finset S4x8192x2048.Idx := (Rect.part (s := S4x8192x2048) (a₀ := 0) hdivH b).set
abbrev xSet (b : Fin 4) : Finset S4x8192.Idx := (Rect.part (s := S4x8192) (a₀ := 0) hdivX b).set
abbrev oSet (b : Fin 4) : Finset S4x2048.Idx := (Rect.part (s := S4x2048) (a₀ := 0) hdivO b).set

/-- What the kernel leaves in the result. -/
def OUT (d : Dev nD) : Buf (Elt F) (oLoc d) := lastRow (m (hLoc d)) (m (xLoc d))

abbrev hPts (d : Dev nD) (b : Fin 4) : sProp 𝕄 := hLoc d ↦[hSet b]{fullShare} m (hLoc d)
abbrev xPts (d : Dev nD) (b : Fin 4) : sProp 𝕄 := xLoc d ↦[xSet b]{fullShare} m (xLoc d)
abbrev oPts (d : Dev nD) (b : Fin 4) (f : Buf (Elt F) (oLoc d)) : sProp 𝕄 := oLoc d ↦[oSet b]{fullShare} f

/-! ## A subcore's coordinates and the windows it names -/

variable (d : Dev nD) (L : grid0.Coords)

abbrev cV : Fin τ.nSC := (L 0).castLE hcore0
abbrev jV : Fin τ.nSub := (L 1).castLE hsub0
abbrev thr : Thread nD τ := V d (cV L) (jV L)

/-- The guard of the kernel body holds of the subcores numbered below four only. -/
theorem cond_iff : ∀ L : grid0.Coords, k0_cond1 L = 1#1 ↔ 2 * (L 1).val + (L 0).val < 4 := by
  decide +kernel

variable (h1 : k0_cond1 L = 1#1)

/-- The sequence a working subcore takes. -/
abbrev seqNo : Fin 4 := ⟨2 * (L 1).val + (L 0).val, (cond_iff L).mp h1⟩

abbrev xRect : Rect S4x8192 := Rect.unit (s := S4x8192) (k0_off1 L) S1x8192.size (k0_off1_inb L h1)
abbrev oRect : Rect S4x2048 := Rect.unit (s := S4x2048) (k0_off4 L) S1x2048.size (k0_off4_inb L h1)
abbrev xWin : Memref sig .scVector .hbm S8192 .i32 := ((xV : Memref sig .scVector .hbm S4x8192 .i32).slice (xRect L h1) (fun _ => rfl)).squeeze S8192 squeezes_S1x8192_S8192
abbrev oWin : Memref sig .scVector .hbm S2048 .f32 := ((oV : Memref sig .scVector .hbm S4x2048 .f32).slice (oRect L h1) (fun _ => rfl)).squeeze S2048 squeezes_S1x2048_S2048

/-- The mask window is the sequence's slab of the mask. -/
theorem xRect_eq : xRect L h1 = Rect.part (s := S4x8192) (a₀ := 0) hdivX (seqNo L h1) := by
  unfold xRect Rect.part Rect.block
  congr 1 <;> funext a
  · rw [k0_off1_eq]
    fin_cases a <;> simp [Shape.partIx, Shape.partSize]
  · fin_cases a <;> simp [Shape.partSize]

/-- The result window is the sequence's slab of the result. -/
theorem oRect_eq : oRect L h1 = Rect.part (s := S4x2048) (a₀ := 0) hdivO (seqNo L h1) := by
  unfold oRect Rect.part Rect.block
  congr 1 <;> funext a
  · rw [k0_off4_eq]
    fin_cases a <;> simp [Shape.partIx, Shape.partSize]
  · fin_cases a <;> simp [Shape.partSize]

/-- The elements under the mask window. -/
theorem set_xWin : (xWin L h1).view.set = xSet (seqNo L h1) := by
  rw [show xSet (seqNo L h1) = (xRect L h1).set by rw [xRect_eq]]
  refine (View.set_reshape _ _).trans ?_
  exact View.set_slice_whole _ _

/-- The elements under the result window. -/
theorem set_oWin : (oWin L h1).view.set = oSet (seqNo L h1) := by
  rw [show oSet (seqNo L h1) = (oRect L h1).set by rw [oRect_eq]]
  refine (View.set_reshape _ _).trans ?_
  exact View.set_slice_whole _ _

/-- Holding the mask slab is holding the mask window. -/
theorem pts_xWin (f : Buf (Elt F) (xLoc d)) :
    ((xWin L h1).view.loc (thr d L) ↦[(xWin L h1).view.set]{fullShare} f : sProp 𝕄) = (xLoc d ↦[xSet (seqNo L h1)]{fullShare} f) := by
  rw [set_xWin]

/-- Holding the result slab is holding the result window. -/
theorem pts_oWin (f : Buf (Elt F) (oLoc d)) :
    ((oWin L h1).view.loc (thr d L) ↦[(oWin L h1).view.set]{fullShare} f : sProp 𝕄) = (oLoc d ↦[oSet (seqNo L h1)]{fullShare} f) := by
  rw [set_oWin]

/-- The mask scratch held whole. -/
theorem pts_mS (f : Buf (Elt F) ((thr d L).loc cc0_scratch0)) :
    ((mS : Memref sig .scVector .vmem S8192 .i32).view.loc (thr d L) ↦[(mS : Memref sig .scVector .vmem S8192 .i32).view.set]{fullShare} f : sProp 𝕄)
      = ((thr d L).loc cc0_scratch0 ↦{fullShare} f) := by
  simp only [Memref.view_whole, View.set_whole]

/-- The row scratch held whole. -/
theorem pts_rS (f : Buf (Elt F) ((thr d L).loc cc0_scratch1)) :
    ((rS : Memref sig .scVector .vmem S2048 .f32).view.loc (thr d L) ↦[(rS : Memref sig .scVector .vmem S2048 .f32).view.set]{fullShare} f : sProp 𝕄)
      = ((thr d L).loc cc0_scratch1 ↦{fullShare} f) := by
  simp only [Memref.view_whole, View.set_whole]

abbrev hRect (off : Fin 3 → Nat) (inb : ∀ a, off a + S1x1x2048.size a ≤ S4x8192x2048.size a) : Rect S4x8192x2048 :=
  Rect.unit (s := S4x8192x2048) off S1x1x2048.size inb
abbrev hWin (off : Fin 3 → Nat) (inb : ∀ a, off a + S1x1x2048.size a ≤ S4x8192x2048.size a) : Memref sig .scVector .hbm S2048 .f32 :=
  ((hV : Memref sig .scVector .hbm S4x8192x2048 .f32).slice (hRect off inb) (fun _ => rfl)).squeeze S2048 squeezes_S1x1x2048_S2048

/-- Where an element of the mask window lies in the mask. -/
theorem xWin_emb (y : S8192.Idx) : (xWin L h1).view.emb y = ix2 (seqNo L h1) (y 0) := by
  have e : Shape.reshapeEquiv (squeezes_S1x8192_S8192).numel_eq y = (ix2 (0 : Fin 1) (y 0) : S1x8192.Idx) :=
    Shape.reshapeEquiv_eq_of_rowMajor _ (by rw [Shape.rowMajor_val_one, Shape.rowMajor_val_two]; show 0 * 8192 + (y 0).val = (y 0).val; omega)
  show (xRect L h1).emb (Shape.reshapeEquiv (squeezes_S1x8192_S8192).numel_eq y) = _
  rw [e]
  funext a
  refine Fin.ext ?_
  show k0_off1 L a + 1 * ((ix2 (0 : Fin 1) (y 0) : S1x8192.Idx) a).val = _
  rw [k0_off1_eq]
  match a with
  | ⟨0, _⟩ => rfl
  | ⟨1, _⟩ => show 0 + 1 * (y 0).val = (y 0).val; omega

/-- Where an element of the result window lies in the result. -/
theorem oWin_emb (y : S2048.Idx) : (oWin L h1).view.emb y = ix2 (seqNo L h1) (y 0) := by
  have e : Shape.reshapeEquiv (squeezes_S1x2048_S2048).numel_eq y = (ix2 (0 : Fin 1) (y 0) : S1x2048.Idx) :=
    Shape.reshapeEquiv_eq_of_rowMajor _ (by rw [Shape.rowMajor_val_one, Shape.rowMajor_val_two]; show 0 * 2048 + (y 0).val = (y 0).val; omega)
  show (oRect L h1).emb (Shape.reshapeEquiv (squeezes_S1x2048_S2048).numel_eq y) = _
  rw [e]
  funext a
  refine Fin.ext ?_
  show k0_off4 L a + 1 * ((ix2 (0 : Fin 1) (y 0) : S1x2048.Idx) a).val = _
  rw [k0_off4_eq]
  match a with
  | ⟨0, _⟩ => rfl
  | ⟨1, _⟩ => show 0 + 1 * (y 0).val = (y 0).val; omega

/-- Where an element of a one-row window of the hidden array lies in it. -/
theorem hWin_emb (b : Fin 4) (p : Fin 8192) (off : Fin 3 → Nat) (inb : ∀ a, off a + S1x1x2048.size a ≤ S4x8192x2048.size a)
    (hoff : off = ![b.val, p.val, 0]) (y : S2048.Idx) : (hWin off inb).view.emb y = ix3 b p (y 0) := by
  subst hoff
  have e : Shape.reshapeEquiv (squeezes_S1x1x2048_S2048).numel_eq y = (ix3 (0 : Fin 1) (0 : Fin 1) (y 0) : S1x1x2048.Idx) :=
    Shape.reshapeEquiv_eq_of_rowMajor _ (by rw [Shape.rowMajor_val_one, Shape.rowMajor_val_three]; show (0 * 1 + 0) * 2048 + (y 0).val = (y 0).val; omega)
  show (hRect _ inb).emb (Shape.reshapeEquiv (squeezes_S1x1x2048_S2048).numel_eq y) = _
  rw [e]
  funext a
  refine Fin.ext ?_
  match a with
  | ⟨0, _⟩ => rfl
  | ⟨1, _⟩ => rfl
  | ⟨2, _⟩ => show 0 + 1 * (y 0).val = (y 0).val; omega

/-- Every element of sequence `b` lies in its slab of the hidden array. -/
theorem mem_hSet (b : Fin 4) (p : Fin 8192) (q : Fin 2048) : (ix3 b p q : S4x8192x2048.Idx) ∈ hSet b := by
  unfold hSet Rect.part Rect.block
  rw [Rect.mem_set_unit]
  intro a
  match a with
  | ⟨0, _⟩ => simp [Shape.partIx, Shape.partSize]
  | ⟨1, _⟩ => simp [Shape.partIx, Shape.partSize]
  | ⟨2, _⟩ => simp [Shape.partIx, Shape.partSize]

/-- A one-row window of the hidden array lies in the slab of its sequence. -/
theorem hWin_subset (b : Fin 4) (p : Fin 8192) (off : Fin 3 → Nat) (inb : ∀ a, off a + S1x1x2048.size a ≤ S4x8192x2048.size a)
    (hoff : off = ![b.val, p.val, 0]) : (hWin off inb).view.set ⊆ hSet b := by
  intro i hi
  obtain ⟨y, -, rfl⟩ := Finset.mem_map.mp hi
  rw [hWin_emb b p off inb hoff]
  exact mem_hSet b p (y 0)

/-- The offsets of the hidden row: the subcore's number and the clamped last valid position of the summed words. -/
theorem off3_eq (v9 v11 v14 v17 v20 v23 v26 v29 v32 v35 v38 v41 v44 v47 v50 v53 : BitVec 32) :
    k0_off3 L v9 v11 v14 v17 v20 v23 v26 v29 v32 v35 v38 v41 v44 v47 v50 v53
      = ![2 * (L 1).val + (L 0).val,
          (lastWord (v9 + v11 + v14 + v17 + v20 + v23 + v26 + v29 + v32 + v35 + v38 + v41 + v44 + v47 + v50 + v53)).toNat, 0] := by
  have e0 : k0_off1 L 0 = 2 * (L 1).val + (L 0).val := congrFun (k0_off1_eq L) 0
  rw [← e0]
  rfl

/-- The bounds check before the second fetch holds of any words, by the clamp. -/
theorem chk_all (v9 v11 v14 v17 v20 v23 v26 v29 v32 v35 v38 v41 v44 v47 v50 v53 : BitVec 32) :
    k0_chk1 L v9 v11 v14 v17 v20 v23 v26 v29 v32 v35 v38 v41 v44 v47 v50 v53 := by
  intro h1 a
  rw [off3_eq]
  match a with
  | ⟨0, _⟩ => exact (cond_iff L).mp h1
  | ⟨1, _⟩ => exact lastWord_lt _
  | ⟨2, _⟩ => exact Nat.le_refl 2048

/-! ## The values in a working subcore's scratch -/

/-- The mask row a subcore fetches. -/
def maskRow : Buf (Elt F) ((thr d L).loc cc0_scratch0) := fun y : S8192.Idx => m (xLoc d) (ix2 (seqNo L h1) (y 0))

abbrev words : ℕ → BitVec 32 := rowWord (m (xLoc d)) (seqNo L h1)

/-- The position of the hidden row a subcore fetches. -/
abbrev pos : Fin 8192 := ⟨(lastWord (rowTotal (words m d L h1))).toNat, lastWord_lt _⟩

/-- The hidden row a subcore fetches. -/
def hidRow : Buf (Elt F) ((thr d L).loc cc0_scratch1) := fun y : S2048.Idx => m (hLoc d) (ix3 (seqNo L h1) (pos m d L h1) (y 0))

/-- The first fetch leaves the mask row in the scratch. -/
theorem fetch_mask (f : Buf (Elt F) ((thr d L).loc cc0_scratch0)) :
    (mS : Memref sig .scVector .vmem S8192 .i32).view.write (Elt F) f ((xWin L h1).view.read (Elt F) (m (xLoc d))) Finset.univ = maskRow m d L h1 := by
  refine (View.write_whole_univ _ _ _).trans ?_
  funext y
  exact congrArg (m (xLoc d)) (xWin_emb L h1 y)

/-- The second fetch leaves the hidden row in the scratch. -/
theorem fetch_hid (off : Fin 3 → Nat) (inb : ∀ a, off a + S1x1x2048.size a ≤ S4x8192x2048.size a)
    (hoff : off = ![(seqNo L h1).val, (pos m d L h1).val, 0]) (f : Buf (Elt F) ((thr d L).loc cc0_scratch1)) :
    (rS : Memref sig .scVector .vmem S2048 .f32).view.write (Elt F) f ((hWin off inb).view.read (Elt F) (m (hLoc d))) Finset.univ = hidRow m d L h1 := by
  refine (View.write_whole_univ _ _ _).trans ?_
  funext y
  exact congrArg (m (hLoc d)) (hWin_emb _ _ off inb hoff y)

/-- The write-out leaves the result row in the result's slab. -/
theorem write_out (f : Buf (Elt F) (oLoc d)) : ∀ i ∈ (oWin L h1).view.set,
    (oWin L h1).view.write (Elt F) f ((rS : Memref sig .scVector .vmem S2048 .f32).view.read (Elt F) (hidRow m d L h1)) Finset.univ i = OUT m d i := by
  intro i hi
  obtain ⟨y, -, rfl⟩ := Finset.mem_map.mp hi
  refine (View.write_emb_of_mem (v := (oWin L h1).view) f _ (Finset.mem_univ y)).trans ?_
  rw [oWin_emb]
  rfl

/-- One trip of the loop: sixteen more words added to the running sums. -/
theorem trip (t : Fin k0_t1_loop.trips) (inb) :
    k0_pay5 (lanes (words m d L h1) t.val)
        (View.readAt (Elt F) (mS : Memref sig .scVector .vmem S8192 .i32).view (Rect.unit (s := S8192) (k0_off2 t) S16.size inb).toLoadRect (maskRow m d L h1))
      = lanes (words m d L h1) (t.val + 1) := by
  funext j
  rw [lanes_succ]
  refine congrArg (lanes (words m d L h1) t.val j + ·) ?_
  refine (shapeCast_apply _ _ j j rfl).trans ?_
  have hj : 16 * t.val + (j 0).val < 8192 := by
    have := inb 0
    rw [k0_off2_eq] at this
    have h16 : (j 0).val < 16 := (j 0).isLt
    have : 16 * t.val + 16 ≤ 8192 := this
    omega
  show _ = rowWord _ _ _
  unfold rowWord
  rw [dif_pos hj]
  refine congrArg (m (xLoc d)) ?_
  refine congrArg (ix2 (seqNo L h1)) (Fin.ext ?_)
  show k0_off2 t 0 + 1 * (j 0).val = _
  rw [k0_off2_eq]
  show 16 * t.val + 1 * (j 0).val = 16 * t.val + (j 0).val
  omega

/-- The sixteen lanes after the loop add up to the row's sum. -/
theorem total_word (v : IVec S16 32) (hv : v = lanes (words m d L h1) 512) :
    extractAt ![0] (k0_pay6 v) inpos_S1_p0 + extractAt ![0] (k0_pay7 v) inpos_S1_p0 + extractAt ![0] (k0_pay8 v) inpos_S1_p0
      + extractAt ![0] (k0_pay9 v) inpos_S1_p0 + extractAt ![0] (k0_pay10 v) inpos_S1_p0 + extractAt ![0] (k0_pay11 v) inpos_S1_p0
      + extractAt ![0] (k0_pay12 v) inpos_S1_p0 + extractAt ![0] (k0_pay13 v) inpos_S1_p0 + extractAt ![0] (k0_pay14 v) inpos_S1_p0
      + extractAt ![0] (k0_pay15 v) inpos_S1_p0 + extractAt ![0] (k0_pay16 v) inpos_S1_p0 + extractAt ![0] (k0_pay17 v) inpos_S1_p0
      + extractAt ![0] (k0_pay18 v) inpos_S1_p0 + extractAt ![0] (k0_pay1 v) inpos_S1_p0 + extractAt ![0] (k0_pay2 v) inpos_S1_p0
      + extractAt ![0] (k0_pay3 v) inpos_S1_p0 = rowTotal (words m d L h1) := by
  subst hv
  rw [← lanes_total, ← add_sixteen]
  rfl

/-- The second fetch's window starts at the sequence's last valid row. -/
theorem off3_total (v : IVec S16 32) (hv : v = lanes (words m d L h1) 512) :
    k0_off3 L (extractAt ![0] (k0_pay6 v) inpos_S1_p0) (extractAt ![0] (k0_pay7 v) inpos_S1_p0) (extractAt ![0] (k0_pay8 v) inpos_S1_p0) (extractAt ![0] (k0_pay9 v) inpos_S1_p0) (extractAt ![0] (k0_pay10 v) inpos_S1_p0) (extractAt ![0] (k0_pay11 v) inpos_S1_p0) (extractAt ![0] (k0_pay12 v) inpos_S1_p0) (extractAt ![0] (k0_pay13 v) inpos_S1_p0) (extractAt ![0] (k0_pay14 v) inpos_S1_p0) (extractAt ![0] (k0_pay15 v) inpos_S1_p0) (extractAt ![0] (k0_pay16 v) inpos_S1_p0) (extractAt ![0] (k0_pay17 v) inpos_S1_p0) (extractAt ![0] (k0_pay18 v) inpos_S1_p0) (extractAt ![0] (k0_pay1 v) inpos_S1_p0) (extractAt ![0] (k0_pay2 v) inpos_S1_p0) (extractAt ![0] (k0_pay3 v) inpos_S1_p0)
      = ![(seqNo L h1).val, (pos m d L h1).val, 0] := by
  rw [off3_eq, total_word m d L h1 v hv]

/-- The loop's invariant: the running sums so far, and the mask row in its scratch. -/
def inv (k : Nat) (acc : IVec S16 32) : sProp 𝕄 :=
  iprop(⌜acc = lanes (words m d L h1) k⌝ ∗ ((mS : Memref sig .scVector .vmem S8192 .i32).view.loc (thr d L) ↦{fullShare} maskRow m d L h1))

abbrev sem0 : GSem nD τ sig := (thr d L, .dma cc0_scoped0.sem)
abbrev sem1 : GSem nD τ sig := (thr d L, .dma cc0_scoped1.sem)
abbrev sem2 : GSem nD τ sig := (thr d L, .dma cc0_scoped2.sem)

omit [FloatOps F] in
/-- A subcore's own semaphores: the kernel's three, and the rest. -/
theorem ownSems0_V :
    (ownSems0 (thr d L) : sProp 𝕄)
      = iprop(semVal (sem0 d L) 0 ∗ semVal (sem1 d L) 0 ∗ semVal (sem2 d L) 0
          ∗ bigSep ((((ownCells (thr d L)).erase (sem0 d L)).erase (sem1 d L)).erase (sem2 d L)) fun g => semVal g 0) := by
  have mem0 : sem0 d L ∈ ownCells (thr d L) := mem_ownCells.mpr ⟨rfl, by
    show (SemLoc.dma cc0_scoped0.sem : SemLoc sig).isScoped .scVector = true; decide⟩
  have mem1 : sem1 d L ∈ ownCells (thr d L) := mem_ownCells.mpr ⟨rfl, by
    show (SemLoc.dma cc0_scoped1.sem : SemLoc sig).isScoped .scVector = true; decide⟩
  have mem2 : sem2 d L ∈ ownCells (thr d L) := mem_ownCells.mpr ⟨rfl, by
    show (SemLoc.dma cc0_scoped2.sem : SemLoc sig).isScoped .scVector = true; decide⟩
  have ne (a b : SemLoc sig) (h : a ≠ b) : ((thr d L, a) : GSem nD τ sig) ≠ (thr d L, b) := fun e => h (Prod.mk.inj e).2
  unfold SparseCore.Cfg.ownSems0
  rw [SparseCore.bigSep_erase' mem0,
    SparseCore.bigSep_erase' (Finset.mem_erase.mpr ⟨ne _ _ (by decide), mem1⟩),
    SparseCore.bigSep_erase' (Finset.mem_erase.mpr ⟨ne _ _ (by decide), Finset.mem_erase.mpr ⟨ne _ _ (by decide), mem2⟩⟩)]

omit [FloatOps F] in
/-- A subcore's own buffers: the two scratch buffers at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have mem0 := SparseCore.Cfg.mem_ownRefs_of_owner (p := Proc.scVector (cV L) (jV L)) (b := (Proc.scVector (cV L) (jV L)).devRef cc0_scratch0) rfl
  have mem1 := SparseCore.Cfg.mem_ownRefs_of_owner (p := Proc.scVector (cV L) (jV L)) (b := (Proc.scVector (cV L) (jV L)).devRef cc0_scratch1) rfl
  unfold SparseCore.Cfg.ownBufs
  refine (SparseCore.bigSep_erase' mem0).trans ?_
  rw [SparseCore.bigSep_erase' (Finset.mem_erase.mpr
    ⟨fun e => absurd (Proc.devRef_injective _ e) (show (cc0_scratch1 : Ref sig .scVector) ≠ cc0_scratch0 by decide), mem1⟩)]

/-- A working subcore's task. -/
theorem tile_work (hF : (K (F := F)).Facts) (O : CellTallies nD τ sig (HIx 1)) (W : Waits sig (HIx 1)) (hO : ∀ g, O g none = 0) :
    iprop(levAts (K (F := F)).L (K (F := F)).lev ∗ (hPts m d (seqNo L h1) ∗ xPts m d (seqNo L h1) ∗ oPts d (seqNo L h1) (m (oLoc d)))
        ∗ scopedBufs (thr d L) ∗ scopedSems0 (thr d L) ∗ owes (thr d L) O W)
      ⊢ wp frame (wpE (defs₀ (F := F)) 𝒱₀ (thr d L) none) Set.univ
          (cc0_k L hV (Memref.isWhole_whole _) xV (Memref.isWhole_whole _) oV (Memref.isWhole_whole _) mS (Memref.isWhole_whole _) rS (Memref.isWhole_whole _)
            cc0_scoped0 cc0_scoped1 cc0_scoped2)
          fun _ => iprop((hPts m d (seqNo L h1) ∗ xPts m d (seqNo L h1) ∗ oPts d (seqNo L h1) (OUT m d)) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [dif_pos h1]
  simp only [k0_part1_eq_skeleton]; unfold k0_part1_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  iintro ⟨#Hlv, ⟨Hh, Hx, Ho⟩, ⟨⟨%fs, Hs⟩, ⟨%fr, Hr⟩, Hbufs⟩, ⟨Hsem0, Hsem1, Hsem2, Hsems⟩, HO⟩
  ihave #Hmw := ((K (F := F)).mayWaits_none (thr := thr d L) hO) $$ Hlv
  ihave Hx' := (Entails.of_eq (pts_xWin (F := F) d L h1 _).symm) $$ Hx
  iapply (Transfers.wp_dmaLocal countersEmb 𝒱₀ (thr d L) none (Sd := Finset.univ) (fd := fs) none _ rfl (View.amount_pos _ _ (show 0 < S8192.numel by decide)) (Finset.subset_univ _)) $$ [Hx' Hs Hsem0]
  · isplitl [Hx']; · iexact Hx'
    isplitl [Hs]; · iexact Hs
    iexact Hsem0
  iintro Hfl
  iapply (Transfers.wp_waitLocalO countersEmb 𝒱₀ (thr d L) none none rfl) $$ [Hfl HO]
  · isplitl [Hfl]; · iexact Hfl
    isplitl [HO]; · iexact HO
    iapply (Transfers.MayWaits.elim (SemLoc.dma cc0_scoped0.sem)); iexact Hmw
  iintro ⟨⟨Hs, Hx'⟩, Hsem0, HO⟩
  ihave Hs' := (Entails.of_eq (congrArg (fun f => ((mS : Memref sig .scVector .vmem S8192 .i32).view.loc (thr d L) ↦{fullShare} f : sProp 𝕄)) (fetch_mask m d L h1 fs))) $$ Hs
  sl_for (inv m d L h1) $$ [Hs']
  case region =>
    intro k _
    unfold inv
    iintro ⟨%hacc, Hs⟩
    sl_exec
    sl_step
    isplitr
    · ipureintro; subst hacc; exact trip m d L h1 k _
    · iexact Hs
  · unfold inv
    isplitr
    · ipureintro; funext j; exact (lanes_zero _ j).symm
    · iexact Hs'
  iintro %v7 HI
  unfold inv
  icases HI with ⟨%hv, Hs⟩
  have ht : Scf.trips k0_t1_loop.lb k0_t1_loop.ub k0_t1_loop.st = 512 := by decide +kernel
  rw [ht] at hv
  unfold tile_work.sl.prog.cont_1
  dsimp only
  rw [wp_assume_of 𝒱₀ (thr d L) none Set.univ (chk_all L _ _ _ _ _ _ _ _ _ _ _ _ _ _ _ _)]
  have hoff := off3_total m d L h1 v7 hv
  have inb := chk_all L (extractAt ![0] (k0_pay6 v7) inpos_S1_p0) (extractAt ![0] (k0_pay7 v7) inpos_S1_p0) (extractAt ![0] (k0_pay8 v7) inpos_S1_p0) (extractAt ![0] (k0_pay9 v7) inpos_S1_p0) (extractAt ![0] (k0_pay10 v7) inpos_S1_p0) (extractAt ![0] (k0_pay11 v7) inpos_S1_p0) (extractAt ![0] (k0_pay12 v7) inpos_S1_p0) (extractAt ![0] (k0_pay13 v7) inpos_S1_p0) (extractAt ![0] (k0_pay14 v7) inpos_S1_p0) (extractAt ![0] (k0_pay15 v7) inpos_S1_p0) (extractAt ![0] (k0_pay16 v7) inpos_S1_p0) (extractAt ![0] (k0_pay17 v7) inpos_S1_p0) (extractAt ![0] (k0_pay18 v7) inpos_S1_p0) (extractAt ![0] (k0_pay1 v7) inpos_S1_p0) (extractAt ![0] (k0_pay2 v7) inpos_S1_p0) (extractAt ![0] (k0_pay3 v7) inpos_S1_p0) h1
  have hsub := hWin_subset (seqNo L h1) (pos m d L h1) _ inb hoff
  -- the hidden row fetched
  ihave Hh' := (pointsTo_split_subset (ℓ := hLoc d) (q := fullShare) (f := m (hLoc d)) hsub).1 $$ Hh
  icases Hh' with ⟨Hw, Hrest⟩
  iapply (Transfers.wp_dmaLocal countersEmb 𝒱₀ (thr d L) none (q := fullShare) (fs := m (hLoc d)) (Sd := Finset.univ) (fd := fr) none _ rfl (View.amount_pos _ _ (show 0 < S2048.numel by decide)) (Finset.subset_univ _)) $$ [Hw Hr Hsem1]
  · isplitl [Hw]; · iexact Hw
    isplitl [Hr]; · iexact Hr
    iexact Hsem1
  iintro Hfl
  iapply (Transfers.wp_waitLocalO countersEmb 𝒱₀ (thr d L) none none rfl) $$ [Hfl HO]
  · isplitl [Hfl]; · iexact Hfl
    isplitl [HO]; · iexact HO
    iapply (Transfers.MayWaits.elim (SemLoc.dma cc0_scoped1.sem)); iexact Hmw
  iintro ⟨⟨Hr, Hw⟩, Hsem1, HO⟩
  ihave Hr' := (Entails.of_eq (congrArg (fun f => ((thr d L).loc cc0_scratch1 ↦{fullShare} f : sProp 𝕄)) (fetch_hid m d L h1 _ inb hoff fr))) $$ Hr
  ihave Hr := (Entails.of_eq (pts_rS (F := F) d L _).symm) $$ Hr'
  ihave Ho' := (Entails.of_eq (pts_oWin (F := F) d L h1 _).symm) $$ Ho
  -- the result row written out
  iapply (Transfers.wp_dmaLocal countersEmb 𝒱₀ (thr d L) none (q := fullShare) (fs := hidRow m d L h1) (Sd := (oWin L h1).view.set) (fd := m (oLoc d)) none _ rfl (View.amount_pos _ _ (show 0 < S2048.numel by decide)) (Finset.Subset.refl _)) $$ [Hr Ho' Hsem2]
  · isplitl [Hr]; · iexact Hr
    isplitl [Ho']; · iexact Ho'
    iexact Hsem2
  iintro Hfl
  iapply (Transfers.wp_waitLocalO countersEmb 𝒱₀ (thr d L) none none rfl) $$ [Hfl HO]
  · isplitl [Hfl]; · iexact Hfl
    isplitl [HO]; · iexact HO
    iapply (Transfers.MayWaits.elim (SemLoc.dma cc0_scoped2.sem)); iexact Hmw
  iintro ⟨⟨Ho, Hr⟩, Hsem2, HO⟩
  ihave Ho' := (Entails.of_eq ((pointsTo_congr (write_out m d L h1 (m (oLoc d)))).trans (pts_oWin (F := F) d L h1 _))) $$ Ho
  ihave Hr' := (Entails.of_eq (pts_rS (F := F) d L _)) $$ Hr
  ihave Hh := (pointsTo_split_subset (ℓ := hLoc d) (q := fullShare) (f := m (hLoc d)) hsub).2 $$ [Hw Hrest]
  · isplitl [Hw]; · iexact Hw
    iexact Hrest
  ihave Hx := (Entails.of_eq (pts_xWin (F := F) d L h1 _)) $$ Hx'
  sl_step
  isplitl [Hh Hx Ho']
  · isplitl [Hh]; · iexact Hh
    isplitl [Hx]; · iexact Hx
    iexact Ho'
  isplitl [Hs Hr' Hbufs]
  · isplitl [Hs]; · iexists _; iexact Hs
    isplitl [Hr']; · iexists _; iexact Hr'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, (none : HIx 1)) (insert (SemLoc.dma cc0_scoped1.sem, (none : HIx 1)) (insert (SemLoc.dma cc0_scoped0.sem, (none : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp
  · iexact HO

/-- A subcore numbered four or more does nothing. -/
theorem tile_idle (h0 : ¬ k0_cond1 L = 1#1) (O : CellTallies nD τ sig (HIx 1)) (W : Waits sig (HIx 1)) :
    iprop(scopedBufs (thr d L) ∗ scopedSems0 (thr d L) ∗ owes (thr d L) O W : sProp 𝕄)
      ⊢ wp frame (wpE (defs₀ (F := F)) 𝒱₀ (thr d L) none) Set.univ
          (cc0_k L hV (Memref.isWhole_whole _) xV (Memref.isWhole_whole _) oV (Memref.isWhole_whole _) mS (Memref.isWhole_whole _) rS (Memref.isWhole_whole _)
            cc0_scoped0 cc0_scoped1 cc0_scoped2)
          fun _ => iprop(scopedBufs (thr d L) ∗ scopedSems0 (thr d L) ∗ ∃ W', ⌜∀ p ∈ W', p ∈ W ∨ p.2 = none⌝ ∗ owes (thr d L) O W') := by
  simp only [cc0_k_eq_skeleton]; unfold cc0_k_skel
  rw [dif_neg h0, Prog.pure_eq_ret]
  iintro ⟨Hb, Hs, HO⟩
  sl_step
  isplitl [Hb]; · iexact Hb
  isplitl [Hs]; · iexact Hs
  iexists W; isplitr
  · ipureintro; exact fun p hp => .inl hp
  · iexact HO

end Cert.Proof.LastRowIdeal
-- ==== Proof.LaunchIdeal.lean ====
module

public import proofs.«01_k».proof.Defs
public import proofs.«01_k».proof.Proof.TileIdeal

/-!
The launch: the three arrays are cut into one slab per sequence, every working subcore gets the slabs of its sequence and
hands them back with the result row written, and the whole program's run follows.
-/

@[expose] public section

noncomputable section

namespace Cert.Proof.LastRowIdeal

open Cert.KernelIdeal Cert.KernelIdeal.Gen
open Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (l : Loc nD τ sig) → Buf (Elt F) l) (ρ : Dev nD → PrngReg)

/-! ## What one subcore is given -/

/-- The slabs of sequence `n`, the result's at contents `f`; nothing beyond the fourth sequence. -/
def slabs (d : Dev nD) (n : ℕ) (f : Buf (Elt F) (oLoc d)) : sProp 𝕄 :=
  if h : n < 4 then iprop(hPts m d ⟨n, h⟩ ∗ xPts m d ⟨n, h⟩ ∗ oPts d ⟨n, h⟩ f) else iprop(emp)

/-- The slabs of one of the four sequences. -/
theorem slabs_of_lt (d : Dev nD) (n : ℕ) (h : n < 4) (f : Buf (Elt F) (oLoc d)) :
    slabs m d n f = iprop(hPts m d ⟨n, h⟩ ∗ xPts m d ⟨n, h⟩ ∗ oPts d ⟨n, h⟩ f) := dif_pos h

/-- There is nothing beyond the fourth sequence. -/
theorem slabs_of_le (d : Dev nD) (n : ℕ) (h : 4 ≤ n) (f : Buf (Elt F) (oLoc d)) : slabs m d n f = iprop(emp) :=
  dif_neg (Nat.not_lt.2 h)

/-- The slabs may travel with a handshake. -/
instance slabs_storable (d : Dev nD) (n : ℕ) (f : Buf (Elt F) (oLoc d)) : BI.Storable (upEmb : UEmb _ 𝕄) (slabs m d n f) := by
  unfold slabs
  split <;> infer_instance

/-- What the handshakes carry: to a subcore the slabs of its sequence, back the same with the result row written. -/
def P : (K (F := F)).Pay (nD := nD) (Val := Elt F) (Name := ℕ) (U := UU) where
  st := fun q d c => match q with | 0 => bigSep Finset.univ fun i : Fin ((K (F := F)).nSub 0) => slabs m d (2 * i.val + c.val) (m (oLoc d))
  dn := fun q d c => match q with | 0 => bigSep Finset.univ fun i : Fin ((K (F := F)).nSub 0) => slabs m d (2 * i.val + c.val) (OUT m d)
  go := fun q d c i => match q with | 0 => slabs m d (2 * i.val + c.val) (m (oLoc d))
  td := fun q d c i => match q with | 0 => slabs m d (2 * i.val + c.val) (OUT m d)
  x := fun _ _ => iprop(emp)

/-- All of it may travel with a handshake. -/
instance P_storable : (P (F := F) m).IsStorable where
  st q d c := match q with
    | 0 => (inferInstance : BI.Storable (upEmb : UEmb _ 𝕄) (bigSep Finset.univ fun i : Fin ((K (F := F)).nSub 0) => slabs m d (2 * i.val + c.val) (m (oLoc d))))
  dn q d c := match q with
    | 0 => (inferInstance : BI.Storable (upEmb : UEmb _ 𝕄) (bigSep Finset.univ fun i : Fin ((K (F := F)).nSub 0) => slabs m d (2 * i.val + c.val) (OUT m d)))
  go q d c i := match q with
    | 0 => (inferInstance : BI.Storable (upEmb : UEmb _ 𝕄) (slabs m d (2 * i.val + c.val) (m (oLoc d))))
  td q d c i := match q with
    | 0 => (inferInstance : BI.Storable (upEmb : UEmb _ 𝕄) (slabs m d (2 * i.val + c.val) (OUT m d)))

/-! ## Every subcore's part -/

/-- A subcore's part, working or idle. -/
theorem tile_body (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ slabs m d (2 * (L 1).val + (L 0).val) (m (oLoc d))
        ∗ scopedBufs (thr d L) ∗ scopedSems0 (thr d L) ∗ owes (thr d L) O W)
      ⊢ wp frame (wpE (defs₀ (F := F)) 𝒱₀ (thr d L) none) Set.univ
          (cc0_k L hV (Memref.isWhole_whole _) xV (Memref.isWhole_whole _) oV (Memref.isWhole_whole _) mS (Memref.isWhole_whole _) rS (Memref.isWhole_whole _)
            cc0_scoped0 cc0_scoped1 cc0_scoped2)
          fun _ => iprop(slabs m d (2 * (L 1).val + (L 0).val) (OUT m d) ∗ scopedBufs (thr d L) ∗ scopedSems0 (thr d L)
            ∗ ∃ W', ⌜∀ p ∈ W', p ∈ W ∨ p.2 = none⌝ ∗ owes (thr d L) O W') := by
  by_cases h1 : k0_cond1 L = 1#1
  · rw [slabs_of_lt m d _ ((cond_iff L).mp h1), slabs_of_lt m d _ ((cond_iff L).mp h1)]
    iintro ⟨Hl, -, Hp, Hr⟩
    iapply (tile_work m d L h1 hF O W hO)
    isplitl [Hl]; · iexact Hl
    isplitl [Hp]; · iexact Hp
    iexact Hr
  · have h4 : 4 ≤ 2 * (L 1).val + (L 0).val := Nat.not_lt.1 fun h => h1 ((cond_iff L).mpr h)
    rw [slabs_of_le m d _ h4, slabs_of_le m d _ h4]
    have post : ∀ A : sProp 𝕄, A ⊢ iprop(emp ∗ A) := fun A => by
      iintro Hr
      isplitr; · iempintro
      iexact Hr
    iintro ⟨-, -, -, Hr⟩
    iapply ((tile_idle d L h1 O W).trans (wp_mono frame _ _ fun _ => post _))
    iexact Hr

/-- The grid coordinates of a subcore. -/
def coordsV (c : Fin (grid0.bound 0)) (s : Fin (grid0.bound 1)) : grid0.Coords :=
  fun | 0 => c | 1 => s | ⟨_ + 2, h⟩ => absurd h (Nat.not_lt.2 (Nat.le_add_left _ _))

/-- What the program runs on a vector subcore. -/
theorem defs₀_vector (c : Fin τ.nSC) (s : Fin τ.nSub) :
    defs₀ (F := F) (.scVector c s) 0 ()
      = SparseCore.onTile hcore0 hsub0 (fun c s => cc0_k (coordsV c s) hV (Memref.isWhole_whole _) xV (Memref.isWhole_whole _)
          oV (Memref.isWhole_whole _) mS (Memref.isWhole_whole _) rS (Memref.isWhole_whole _) cc0_scoped0 cc0_scoped1 cc0_scoped2) ⟨⟩ c s := rfl

/-- The waits of a subcore's own copies are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore keeps its side of the launch. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- What a SparseCore is given is what its subcores are given. -/
theorem vecSplit : (K (F := F)).VecSplit' (P m) 0 := by
  intro d c
  show (bigSep Finset.univ fun i : Fin ((K (F := F)).nSub 0) => slabs m d (2 * i.val + c.val) (m (oLoc d))) ⊢ |={Set.univ}=> iprop(
      (bigSep Finset.univ fun i : Fin ((K (F := F)).nSub 0) => slabs m d (2 * i.val + c.val) (m (oLoc d)))
      ∗ ((bigSep Finset.univ fun i : Fin ((K (F := F)).nSub 0) => slabs m d (2 * i.val + c.val) (OUT m d))
          -∗ bigSep Finset.univ fun i : Fin ((K (F := F)).nSub 0) => slabs m d (2 * i.val + c.val) (OUT m d)))
  iintro H; imodintro
  isplitl [H]; · iexact H
  iintro H; iexact H

/-! ## The arrays, whole and in slabs -/

/-- Nothing, however often, is nothing. -/
theorem nothing {I : Type} (s : Finset I) : (bigSep s fun _ => iprop(emp)) = (iprop(emp) : sProp 𝕄) := bigSep_emp_const s

/-- Sixteen parts of which only the first two hold anything. -/
theorem first_two (Φ : Fin 16 → sProp 𝕄) (h : ∀ i, 2 ≤ i.val → Φ i = iprop(emp)) : bigSep Finset.univ Φ = iprop(Φ 0 ∗ Φ 1) := by
  rw [bigSep_univ_split (0 : Fin 16), bigSep_erase (i := (1 : Fin 16)) (by decide), bigSep_congr (Ψ := fun _ => iprop(emp)) fun i hi => ?_,
    nothing]
  · exact congrArg (fun A : sProp 𝕄 => iprop(Φ 0 ∗ A)) (equiv_iff.mp sep_emp)
  obtain ⟨h1, hi⟩ := Finset.mem_erase.mp hi
  obtain ⟨h0, -⟩ := Finset.mem_erase.mp hi
  have h0' : i.val ≠ 0 := fun e => h0 (Fin.ext e)
  have h1' : i.val ≠ 1 := fun e => h1 (Fin.ext e)
  exact h i (by omega)

/-- Four parts, one after the other. -/
theorem four_parts (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide), SparseCore.bigSep_insert' (by decide),
    SparseCore.bigSep_insert' (by decide), bigSep_singleton]

/-- What all subcores are given together: the slabs of the four sequences. -/
theorem all_slabs (d : Dev nD) (f : Buf (Elt F) (oLoc d)) :
    (bigSep (Finset.univ : Finset (Fin 2)) fun c => bigSep (Finset.univ : Finset (Fin 16)) fun i => slabs m d (2 * i.val + c.val) f)
      = iprop((slabs m d 0 f ∗ slabs m d 2 f) ∗ slabs m d 1 f ∗ slabs m d 3 f) := by
  rw [bigSep_fin_two, first_two _ fun i hi => slabs_of_le m d _ (by omega) f, first_two _ fun i hi => slabs_of_le m d _ (by omega) f]
  rfl

/-- The hidden array whole is its four slabs. -/
theorem hidden_parts (d : Dev nD) : (hLoc d ↦{fullShare} m (hLoc d) : sProp 𝕄) = iprop(hPts m d 0 ∗ hPts m d 1 ∗ hPts m d 2 ∗ hPts m d 3) := by
  rw [← four_parts (fun b => hPts m d b), ← pointsTo_biUnion Finset.univ (ℓ := hLoc d) hSet fun i _ j _ h => Rect.part_disjoint hdivH h, Rect.biUnion_part hdivH]

/-- The mask whole is its four rows. -/
theorem mask_parts (d : Dev nD) : (xLoc d ↦{fullShare} m (xLoc d) : sProp 𝕄) = iprop(xPts m d 0 ∗ xPts m d 1 ∗ xPts m d 2 ∗ xPts m d 3) := by
  rw [← four_parts (fun b => xPts m d b), ← pointsTo_biUnion Finset.univ (ℓ := xLoc d) xSet fun i _ j _ h => Rect.part_disjoint hdivX h, Rect.biUnion_part hdivX]

/-- The result whole is its four rows. -/
theorem result_parts (d : Dev nD) (f : Buf (Elt F) (oLoc d)) :
    (oLoc d ↦{fullShare} f : sProp 𝕄) = iprop(oPts d 0 f ∗ oPts d 1 f ∗ oPts d 2 f ∗ oPts d 3 f) := by
  rw [← four_parts (fun b => oPts d b f), ← pointsTo_biUnion Finset.univ (ℓ := oLoc d) oSet fun i _ j _ h => Rect.part_disjoint hdivO h, Rect.biUnion_part hdivO]

/-- The three arrays whole: what the call takes and hands back. -/
abbrev arrays (d : Dev nD) (f : Buf (Elt F) (oLoc d)) : sProp 𝕄 :=
  iprop((hLoc d ↦{fullShare} m (hLoc d)) ∗ (xLoc d ↦{fullShare} m (xLoc d)) ∗ oLoc d ↦{fullShare} f)

/-- The three arrays cut into what the subcores are given. -/
theorem arrays_cut (d : Dev nD) (f : Buf (Elt F) (oLoc d)) :
    arrays m d f ⊢ bigSep (Finset.univ : Finset (Fin 2)) fun c => bigSep (Finset.univ : Finset (Fin 16)) fun i => slabs m d (2 * i.val + c.val) f := by
  rw [all_slabs, slabs_of_lt m d 0 (by decide), slabs_of_lt m d 1 (by decide), slabs_of_lt m d 2 (by decide), slabs_of_lt m d 3 (by decide),
    arrays, hidden_parts, mask_parts, result_parts]
  iintro ⟨⟨H0, H1, H2, H3⟩, ⟨X0, X1, X2, X3⟩, O0, O1, O2, O3⟩
  isplitl [H0 X0 O0 H2 X2 O2]
  · isplitl [H0 X0 O0]
    · isplitl [H0]; · iexact H0
      isplitl [X0]; · iexact X0
      iexact O0
    · isplitl [H2]; · iexact H2
      isplitl [X2]; · iexact X2
      iexact O2
  · isplitl [H1 X1 O1]
    · isplitl [H1]; · iexact H1
      isplitl [X1]; · iexact X1
      iexact O1
    · isplitl [H3]; · iexact H3
      isplitl [X3]; · iexact X3
      iexact O3

/-- What the subcores hand back put together to the three arrays. -/
theorem arrays_join (d : Dev nD) (f : Buf (Elt F) (oLoc d)) :
    (bigSep (Finset.univ : Finset (Fin 2)) fun c => bigSep (Finset.univ : Finset (Fin 16)) fun i => slabs m d (2 * i.val + c.val) f) ⊢ arrays m d f := by
  rw [all_slabs, slabs_of_lt m d 0 (by decide), slabs_of_lt m d 1 (by decide), slabs_of_lt m d 2 (by decide), slabs_of_lt m d 3 (by decide),
    arrays, hidden_parts, mask_parts, result_parts]
  iintro ⟨⟨⟨H0, X0, O0⟩, H2, X2, O2⟩, ⟨H1, X1, O1⟩, H3, X3, O3⟩
  isplitl [H0 H1 H2 H3]
  · isplitl [H0]; · iexact H0
    isplitl [H1]; · iexact H1
    isplitl [H2]; · iexact H2
    iexact H3
  isplitl [X0 X1 X2 X3]
  · isplitl [X0]; · iexact X0
    isplitl [X1]; · iexact X1
    isplitl [X2]; · iexact X2
    iexact X3
  · isplitl [O0]; · iexact O0
    isplitl [O1]; · iexact O1
    isplitl [O2]; · iexact O2
    iexact O3

/-! ## The whole program -/

/-- The launch's ghost element: the handshakes' rounds, nothing of the kernel's own. -/
def u₀ : UU := (initOf (K (F := F)).hsCells (K (F := F)).hsToks, 1)

/-- The launch's ghost element gives the handshakes their rounds. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing]; iempintro
  unfold P; dsimp only
  rw [show (bigSep Finset.univ fun _ : Thread nD τ => bigSep Finset.univ fun _ : Fin 1 => (iprop(emp) : sProp 𝕄)) = iprop(emp) from by
    rw [bigSep_congr fun _ _ => nothing _, nothing]]
  iempintro

/-- The arrays of the program's main thread. -/
theorem unscopedBufs_eq (d : Dev nD) (W : (b : Ref sig .tc) → Buf (Elt F) ((d.tc : Thread nD τ).loc b)) :
    (unscopedBufs d W : sProp 𝕄) = iprop((hLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the main thread ends with. -/
abbrev FIN (d : Dev nD) : sProp 𝕄 := arrays m d (OUT m d)

/-- The main thread: the call, with the three arrays given to it and taken back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Ha, Hts, -⟩, -⟩
  iapply ((K (F := F)).wp_run (D (F := F)) 𝒱 (EH := EH) (P := P m) κ d 0) $$ [Hst Ha Hb Hts]
  isplitr; · iexact Hctx
  isplitl [Hst]; · iexact Hst
  isplitl [Ha]
  · iapply (arrays_cut m d (m (oLoc d))); iexact Ha
  iintro ⟨Hst, Hdn⟩
  ihave Ha := (show (bigSep Finset.univ fun c : Fin ((K (F := F)).nCore 0) => (P m).dn 0 d c) ⊢ arrays m d (OUT m d) from arrays_join m d (OUT m d)) $$ Hdn
  imodintro
  isplitl [Hst]; · iexact Hst
  isplitr [Hb Hts]
  · iexact Ha
  isplitl [Hb] <;> iassumption

/-- What the end state says of one device: the result is the last valid rows, the arguments are as before. -/
def fq (d : Dev nD) (s' : Phys nD τ sig (Elt F)) : Prop :=
  s'.mem.mem (oLoc d) = OUT m d ∧ s'.mem.mem (hLoc d) = m (hLoc d) ∧ s'.mem.mem (xLoc d) = m (xLoc d)

/-- The main thread's arrays at the end are the memory's. -/
theorem hfin (d : Dev nD) (s' : Phys nD τ sig (Elt F)) : iprop(FIN m d ∗ SI s') ⊢ (⌜fq m d s'⌝ : sProp 𝕄) := by
  have agree : ∀ (l : Loc nD τ sig) (f : Buf (Elt F) l), iprop((l ↦{fullShare} f) ∗ SI s') ⊢ (⌜s'.mem.mem l = f⌝ : sProp 𝕄) := by
    intro l f
    iintro ⟨Hx, HSI⟩
    ihave H := (SI_pointsTo_agree (st := s') (ℓ := l) (I := Finset.univ) (q := fullShare) (f := f)) $$ [HSI Hx]
    · isplitl [HSI] <;> iassumption
    icases H with %hx
    ipureintro; exact funext fun i => hx i (Finset.mem_univ i)
  have po : iprop(FIN m d ∗ SI s') ⊢ (⌜s'.mem.mem (oLoc d) = OUT m d⌝ : sProp 𝕄) := by
    iintro ⟨⟨-, -, Ho⟩, HSI⟩
    iapply (agree (oLoc d) (OUT m d))
    isplitl [Ho] <;> iassumption
  have ph : iprop(FIN m d ∗ SI s') ⊢ (⌜s'.mem.mem (hLoc d) = m (hLoc d)⌝ : sProp 𝕄) := by
    iintro ⟨⟨Hh, -, -⟩, HSI⟩
    iapply (agree (hLoc d) (m (hLoc d)))
    isplitl [Hh] <;> iassumption
  have px : iprop(FIN m d ∗ SI s') ⊢ (⌜s'.mem.mem (xLoc d) = m (xLoc d)⌝ : sProp 𝕄) := by
    iintro ⟨⟨-, Hx, -⟩, HSI⟩
    iapply (agree (xLoc d) (m (xLoc d)))
    isplitl [Hx] <;> iassumption
  exact fun a h => ⟨po a h, ph a h, px a h⟩

/-- The end of the whole run. -/
def QC : PUnit × MemSt nD τ sig (Elt F) → Prop := fun r =>
  (∀ c : Dev nD, r.2.mem (oLoc c) = OUT m c ∧ r.2.mem (hLoc c) = m (hLoc c) ∧ r.2.mem (xLoc c) = m (xLoc c)) ∧ r.2.sem = fun _ => 0

/-- Every run ends with the last valid rows in the result, the arguments as before and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.LastRowIdeal
-- ==== Proof.Reference.lean ====
module

public import proofs.«01_k».proof.Defs
public import proofs.«01_k».proof.Proof.Words
public import Idealize.ShloMosaic.Lib.Pipeline.Value
public import Idealize.ShloMosaic.Lib.Pointwise.Reduce
public import Idealize.ShloMosaic.Lib.ReduceAll
public import Idealize.ShloMosaic.Lib.Quiescent
public import proofs.«01_k».proof.Proof.Gen.ReferenceIdeal
public import proofs.«01_k».proof.Proof.Gen.ReferenceIdeal.Run
public import proofs.«01_k».proof.Proof.Gen.Pre_lengths_positive

/-!
The reference program returns of every sequence the row at its last valid position, where every row sum of the mask
lies between 1 and 8192.
-/

@[expose] public section

noncomputable section

namespace Cert.Proof.Reference

open Cert.ReferenceIdeal Cert.ReferenceIdeal.Gen
open Cert.Proof.Words
open Idealize.ShloMosaic Idealize.SL.Sem

/-- A fold of additions over the words of a row is their sum. -/
theorem fold_addi {n : ℕ} (f : Fin n → BitVec 32) :
    (Finset.univ : Finset (Fin n)).fold IntOp.addi 0#32 f = ∑ k, f k := by
  rw [Finset.sum_eq_fold]
  rfl

/-- The host's row sums. -/
theorem row_sum (x : S4x8192.Idx → BitVec 32) (j : S4.Idx) :
    Host.reduce IntOp.addi x (constantI S_ 32 0#32) reducesTo_S4x8192_S4_d1 h_S_ j = rowTotal (rowWord x (j 0)) := by
  rw [Host.reduce_eq_fold]
  refine (Shape.ReducesTo.fold_fiber_r2_a1 reducesTo_S4x8192_S4_d1 j IntOp.addi _ x).trans ?_
  refine (fold_addi _).trans ?_
  unfold rowTotal
  rw [← Fin.sum_univ_eq_sum_range]
  refine Finset.sum_congr rfl fun k _ => ?_
  unfold rowWord
  rw [dif_pos k.isLt]
  rfl

/-- The gather of one row of every sequence: the pair of start indices, each read signed and clamped. -/
theorem gather_row {α : Type} (x : S4x8192x2048.Idx → α) (idx : IVec S4x2 32) (p : S4x2048.Idx) (b : Fin 4) (q : ℕ) (hq8 : q < 8192)
    (hb : min (idx (ix2 (p 0) 0)).toInt.toNat 3 = b.val) (hq : min (idx (ix2 (p 0) 1)).toInt.toNat 8191 = q) :
    Host.gather gather_S4x8192x2048_S4x2_S4x2048_1_01_n_n_01_1_112048 x idx p = x (ix3 b ⟨q, hq8⟩ (p 1)) := by
  have h0 : GatherDims.start gather_S4x8192x2048_S4x2_S4x2048_1_01_n_n_01_1_112048 p idx (0 : Fin 3)
      + GatherDims.offCoord gather_S4x8192x2048_S4x2_S4x2048_1_01_n_n_01_1_112048 p (0 : Fin 3) = b.val := by
    rw [GatherDims.offCoord_eq_zero gather_S4x8192x2048_S4x2_S4x2048_1_01_n_n_01_1_112048 p (0 : Fin 3) (show (0 : Fin 3) ∉ gather_S4x8192x2048_S4x2_S4x2048_1_01_n_n_01_1_112048.sKept by decide), Nat.add_zero]
    unfold GatherDims.start
    rw [dif_pos (show (0 : Fin 3) ∈ gather_S4x8192x2048_S4x2_S4x2048_1_01_n_n_01_1_112048.startIndexMap by decide)]
    refine Eq.trans ?_ hb
    refine congrArg (fun i : S4x2.Idx => min (idx i).toInt.toNat 3) ?_
    funext c
    match c with
    | ⟨0, _⟩ => rfl
    | ⟨1, _⟩ => rfl
  have h1 : GatherDims.start gather_S4x8192x2048_S4x2_S4x2048_1_01_n_n_01_1_112048 p idx (1 : Fin 3)
      + GatherDims.offCoord gather_S4x8192x2048_S4x2_S4x2048_1_01_n_n_01_1_112048 p (1 : Fin 3) = q := by
    rw [GatherDims.offCoord_eq_zero gather_S4x8192x2048_S4x2_S4x2048_1_01_n_n_01_1_112048 p (1 : Fin 3) (show (1 : Fin 3) ∉ gather_S4x8192x2048_S4x2_S4x2048_1_01_n_n_01_1_112048.sKept by decide), Nat.add_zero]
    unfold GatherDims.start
    rw [dif_pos (show (1 : Fin 3) ∈ gather_S4x8192x2048_S4x2_S4x2048_1_01_n_n_01_1_112048.startIndexMap by decide)]
    refine Eq.trans ?_ hq
    refine congrArg (fun i : S4x2.Idx => min (idx i).toInt.toNat 8191) ?_
    funext c
    match c with
    | ⟨0, _⟩ => rfl
    | ⟨1, _⟩ => rfl
  have h2 : GatherDims.start gather_S4x8192x2048_S4x2_S4x2048_1_01_n_n_01_1_112048 p idx (2 : Fin 3)
      + GatherDims.offCoord gather_S4x8192x2048_S4x2_S4x2048_1_01_n_n_01_1_112048 p (2 : Fin 3) = (p 1).val := by
    unfold GatherDims.start
    rw [dif_neg (show (2 : Fin 3) ∉ gather_S4x8192x2048_S4x2_S4x2048_1_01_n_n_01_1_112048.startIndexMap by decide), Nat.zero_add]
    unfold GatherDims.offCoord
    rw [dif_pos (show (2 : Fin 3) ∈ gather_S4x8192x2048_S4x2_S4x2048_1_01_n_n_01_1_112048.sKept by decide)]
    rfl
  unfold Host.gather
  refine congrArg x ?_
  funext a
  refine Fin.ext ?_
  show GatherDims.start _ p idx a + GatherDims.batchCoord _ p a + GatherDims.offCoord _ p a = _
  rw [GatherDims.batchCoord_eq_zero _ _ _ List.not_mem_nil, Nat.add_zero]
  match a with
  | ⟨0, _⟩ => exact h0
  | ⟨1, _⟩ => exact h1
  | ⟨2, _⟩ => exact h2

/-- The start indices of the gather: of every sequence its number and the position of its last valid row. -/
abbrev startIndices (x : S4x8192.Idx → BitVec 32) : IVec S4x2 32 :=
  concatenate S4x2 1 [⟨S4x1, (broadcastInDim S4x1 ![0] bcast_S4_S4x1_0 (select (cmpi .slt (iotaInDim S4 32 0) (broadcastInDim S4 ![] bcast_S_S4 (constantI S_ 32 0#32))) (addi (iotaInDim S4 32 0) (broadcastInDim S4 ![] bcast_S_S4 (constantI S_ 32 4#32))) (iotaInDim S4 32 0)))⟩, ⟨S4x1, (broadcastInDim S4x1 ![0] bcast_S4_S4x1_0 (select (cmpi .slt (subi (Host.reduce IntOp.addi x (constantI S_ 32 0#32) reducesTo_S4x8192_S4_d1 h_S_) (broadcastInDim S4 ![] bcast_S_S4 (constantI S_ 32 1#32))) (broadcastInDim S4 ![] bcast_S_S4 (constantI S_ 32 0#32))) (addi (subi (Host.reduce IntOp.addi x (constantI S_ 32 0#32) reducesTo_S4x8192_S4_d1 h_S_) (broadcastInDim S4 ![] bcast_S_S4 (constantI S_ 32 1#32))) (broadcastInDim S4 ![] bcast_S_S4 (constantI S_ 32 8192#32))) (subi (Host.reduce IntOp.addi x (constantI S_ 32 0#32) reducesTo_S4x8192_S4_d1 h_S_) (broadcastInDim S4 ![] bcast_S_S4 (constantI S_ 32 1#32)))))⟩] concatenates_S4x1_S4x1_S4x2_d1

/-- A word that is not negative is not wrapped. -/
theorem no_wrap (w v : BitVec 32) (h : 0 ≤ w.toInt) :
    (if BitVec.ofBool (w.slt 0#32) = 1#1 then v else w) = w := by
  rw [if_neg]
  have h0 : (0#32).toInt = 0 := by decide
  have : w.slt 0#32 = false := by
    rw [BitVec.slt, h0]
    exact decide_eq_false (by omega)
  rw [this]
  decide

/-- An index vector whose entry is not negative keeps that entry under the wrap of negative indices. -/
theorem wrap_apply (a n : IVec S4 32) (j : S4.Idx) (h : 0 ≤ (a j).toInt) :
    select (cmpi .slt a (broadcastInDim S4 ![] bcast_S_S4 (constantI S_ 32 0#32))) (addi a n) a j = a j :=
  no_wrap (a j) _ h

/-- A sequence's number, read signed and clamped to the last sequence, is that number. -/
theorem seq_clamp : ∀ b : Fin 4, min (BitVec.ofNat 32 b.val).toInt.toNat 3 = b.val := by decide

/-- The first column of the start indices. -/
theorem startIndices_zero (x : S4x8192.Idx → BitVec 32) (b : Fin 4) : startIndices x (ix2 b 0) = BitVec.ofNat 32 b.val := by
  refine (concatenate_pair_apply_left 1 _ _ concatenates_S4x1_S4x1_S4x2_d1 (ix2 b 0) rfl (ix2 b 0) (fun c => ?_)).trans ?_
  · match c with
    | ⟨0, _⟩ => rfl
    | ⟨1, _⟩ => rfl
  refine (broadcastInDim_apply _ bcast_S4_S4x1_0 _ _ (ix1 b) (fun e => ?_)).trans ?_
  · match e with
    | ⟨0, _⟩ => rfl
  refine (wrap_apply (iotaInDim S4 32 0) _ (ix1 b) ?_).trans rfl
  exact (show ∀ b : Fin 4, 0 ≤ (BitVec.ofNat 32 b.val).toInt by decide) b

/-- The second column of the start indices, of a sequence of at least one valid row. -/
theorem startIndices_one (x : S4x8192.Idx → BitVec 32) (b : Fin 4) (h1 : 1 ≤ (rowTotal (rowWord x b)).toInt) :
    startIndices x (ix2 b 1) = rowTotal (rowWord x b) - 1#32 := by
  refine (concatenate_pair_apply_right 1 _ _ concatenates_S4x1_S4x1_S4x2_d1 (ix2 b 1) rfl rfl (ix2 b 0) (fun c hc => ?_) rfl).trans ?_
  · match c with
    | ⟨0, _⟩ => rfl
    | ⟨1, _⟩ => exact absurd rfl hc
  refine (broadcastInDim_apply _ bcast_S4_S4x1_0 _ _ (ix1 b) (fun e => ?_)).trans ?_
  · match e with
    | ⟨0, _⟩ => rfl
  have e : subi (Host.reduce IntOp.addi x (constantI S_ 32 0#32) reducesTo_S4x8192_S4_d1 h_S_) (broadcastInDim S4 ![] bcast_S_S4 (constantI S_ 32 1#32)) (ix1 b)
      = rowTotal (rowWord x b) - 1#32 := congrArg (· - 1#32) (row_sum x (ix1 b))
  refine Eq.trans ?_ e
  refine wrap_apply _ _ (ix1 b) ?_
  rw [e]
  exact (lastWord_of_pos _ h1).1

/-- Under the precondition every row sum is positive. -/
theorem lengths {F : FTy → Type} [FloatOps F] (h : FVec F S4x8192x2048 .f32) (x : IVec S4x8192 32)
    (hp : Cert.Pre_lengths_positive.fn (F := F) h x = fun _ => 1#1) (b : Fin 4) : 1 ≤ (rowTotal (rowWord x b)).toInt := by
  haveI : Subsingleton Cert.Pre_lengths_positive.S_.Idx := ⟨fun i j => funext fun a => a.elim0⟩
  have e := Host.reduce_andi_all _ _ _ _ _ (congrFun hp (fun a => a.elim0)) (ix1 b)
  have s : Host.reduce IntOp.addi x (constantI S_ 32 0#32) reducesTo_S4x8192_S4_d1 h_S_ (ix1 b) = rowTotal (rowWord x b) := row_sum x (ix1 b)
  have ge : BitVec.ofBool ((1#32).sle (rowTotal (rowWord x b))) = 1#1 := by
    rw [← s]; exact e
  have h1 : (1#32).toInt = 1 := by decide
  have tr : ∀ c : Bool, BitVec.ofBool c = 1#1 → c = true := by decide
  have ge' := tr _ ge
  rw [BitVec.sle, decide_eq_true_eq, h1] at ge'
  exact ge'

/-- The first start index, read signed and clamped, is the sequence's number. -/
theorem gather_seq (x : S4x8192.Idx → BitVec 32) (b : Fin 4) : min (startIndices x (ix2 b 0)).toInt.toNat 3 = b.val := by
  rw [startIndices_zero x b]
  exact seq_clamp b

/-- The second start index, read signed and clamped, is the kernel's last position. -/
theorem gather_pos (x : S4x8192.Idx → BitVec 32) (b : Fin 4) (h1 : 1 ≤ (rowTotal (rowWord x b)).toInt) :
    min (startIndices x (ix2 b 1)).toInt.toNat 8191 = (lastWord (rowTotal (rowWord x b))).toNat := by
  rw [startIndices_one x b h1]
  exact (lastWord_of_pos _ h1).2

/-- What the reference returns is what the kernel returns. -/
theorem reference_value {α : Type} (h : S4x8192x2048.Idx → α) (x : S4x8192.Idx → BitVec 32)
    (hx : ∀ b : Fin 4, 1 ≤ (rowTotal (rowWord x b)).toInt) :
    Host.gather gather_S4x8192x2048_S4x2_S4x2048_1_01_n_n_01_1_112048 h (startIndices x) = lastRow h x := by
  funext p
  have key : ∀ b : Fin 4, p 0 = b →
      Host.gather gather_S4x8192x2048_S4x2_S4x2048_1_01_n_n_01_1_112048 h (startIndices x) p
        = h (ix3 b ⟨(lastWord (rowTotal (rowWord x b))).toNat, lastWord_lt _⟩ (p 1)) := by
    intro b hb
    have h0 : min (startIndices x (ix2 (p 0) 0)).toInt.toNat 3 = b.val := by
      rw [hb]
      exact gather_seq x b
    have h1 : min (startIndices x (ix2 (p 0) 1)).toInt.toNat 8191 = (lastWord (rowTotal (rowWord x b))).toNat := by
      rw [hb]
      exact gather_pos x b (hx b)
    exact gather_row h (startIndices x) p b (lastWord (rowTotal (rowWord x b))).toNat (lastWord_lt _) h0 h1
  exact key (p 0) rfl

/-- The reference's frame: it leaves its arguments as they are and has no semaphore. -/
theorem frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Reference
-- ==== Proof.lean ====
/-
The kernel returns, of every sequence, its last valid row. Its runs at bit-exact floats and at the ideal ones come from
`Proof/Launch.lean` and `Proof/LaunchIdeal.lean`; what the reference returns comes from `Proof/Reference.lean`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_lengths_positive
public import proofs.«01_k».proof.Proof.Launch
public import proofs.«01_k».proof.Proof.LaunchIdeal
public import proofs.«01_k».proof.Proof.Reference
public import Idealize.ShloMosaic.Adequacy
public import Idealize.ShloMosaic.Init

@[expose] public section

noncomputable section

namespace Cert.Proof

open Idealize.ShloMosaic Idealize.SL.Sem

/-- Every run of the kernel leaves its arguments as they are and its semaphores at zero. -/
theorem frame_kernel : Cert.quiescent_Kernel := fun m g _ =>
  (θ_run Cert.Kernel.defs _ _).mono (fun _ h => ⟨fun c => (h.1 c).2, h.2⟩) (LastRowBits.run_main (F := Bits) m g)

/-- The same of the kernel at the ideal floats. -/
theorem frame_ideal : Cert.quiescent_KernelIdeal := fun m g _ =>
  (θ_run Cert.KernelIdeal.defs _ _).mono (fun _ h => ⟨fun c => (h.1 c).2, h.2⟩) (LastRowIdeal.run_main (F := Ideal) m g)

/-- The same on the inputs of the value claim. -/
theorem frame_ideal_pre : Cert.quiescent_KernelIdeal_pre_lengths_positive := fun m g _ =>
  (θ_run Cert.KernelIdeal.defs _ _).mono (fun _ h => ⟨fun c => (h.1 c).2, h.2⟩) (LastRowIdeal.run_main (F := Ideal) m g)

/-- The reference leaves its arguments as they are, on the inputs of the value claim too. -/
theorem frame_reference_pre : Cert.quiescent_ReferenceIdeal_pre_lengths_positive := fun m g _ => Reference.frame m g trivial

/-- Where every length is positive the kernel returns what the reference returns. -/
theorem value : Cert.algebraic_KernelIdeal_ReferenceIdeal_pre_lengths_positive := by
  intro m g m' g' hpre hargs
  refine ⟨fun c => LastRowIdeal.OUT m c, ?_, ?_⟩
  · exact (θ_run Cert.KernelIdeal.defs _ _).mono (fun _ h => h.1) (LastRowIdeal.run_main (F := Ideal) m g)
  · refine (θ_run Cert.ReferenceIdeal.defs _ _).mono (fun r h c => ⟨(h c).1.trans ?_, (h c).2⟩) (Cert.ReferenceIdeal.Value.run (F := Ideal) m' g')
    refine (congrArg₂ (fun h x => Host.gather Cert.ReferenceIdeal.gather_S4x8192x2048_S4x2_S4x2048_1_01_n_n_01_1_112048 h (Reference.startIndices x))
      (hargs c).1 (hargs c).2).trans ?_
    exact Reference.reference_value _ _ (Reference.lengths (F := Ideal) _ _ (hpre c))

/-- All the claims. -/
theorem claim : Cert.Claim := ⟨Cert.Kernel.Gen.facts, Cert.KernelIdeal.Gen.facts, Cert.ReferenceIdeal.Gen.facts, Cert.Pre_lengths_positive.Gen.facts,
  frame_kernel, frame_ideal, frame_ideal_pre, Reference.frame, frame_reference_pre, trivial, value⟩

end Cert.Proof

end
